-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S8192x1024 : Shape := ⟨2, ![8192, 1024]⟩
abbrev S4x4096x1024 : Shape := ⟨3, ![4, 4096, 1024]⟩
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x4096x1024, .f32⟩
  | .hbm, ⟨3, _⟩ => ⟨S4x4096x1024, .f32⟩
  | .hbm, ⟨4, _⟩ => ⟨S4x8192x1024, .f32⟩
  | .local _ .vmem, ⟨0, _⟩ => ⟨S4x512x1024, .f32⟩
  | .local _ .vmem, ⟨1, _⟩ => ⟨S4x512x1024, .f32⟩
  | .local _ .vmem, ⟨2, _⟩ => ⟨S512x1024, .f32⟩
  | .local _ .vmem, ⟨3, _⟩ => ⟨S512x1024, .f32⟩
  | .local _ .vmem, ⟨4, _⟩ => ⟨S4x512x1024, .f32⟩
  | .local _ .vmem, ⟨5, _⟩ => ⟨S4x512x1024, .f32⟩
  | .local _ .vmem, ⟨6, _⟩ => ⟨S4x512x1024, .f32⟩
  | .local _ .vmem, ⟨7, _⟩ => ⟨S4x512x1024, .f32⟩
  | .local _ .vmem, ⟨8, _⟩ => ⟨S512x1024, .f32⟩
  | .local _ .vmem, ⟨9, _⟩ => ⟨S512x1024, .f32⟩
  | .local _ .vmem, ⟨10, _⟩ => ⟨S4x512x1024, .f32⟩
  | .local _ .vmem, ⟨11, _⟩ => ⟨S4x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S4x8192x1024 : Shape := ⟨3, ![4, 8192, 1024]⟩
abbrev S8192x1024 : Shape := ⟨2, ![8192, 1024]⟩
abbrev S1x8192x1024 : Shape := ⟨3, ![1, 8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1x8192x1024, .f32⟩
  | .hbm, ⟨3, _⟩ => ⟨S4x8192x1024, .f32⟩
  | .hbm, ⟨4, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Run.lean ====
/- The idealized kernel's run, read whole: every buffer that outlives the launch ends at the contents the generated
   fold through @main gives it, and the three arrays of the claim are read off that fold. -/
module

public import proofs.«01_k».proof.Proof.Gen.KernelIdeal.Frame

@[expose] public section

noncomputable section

namespace Cert.KernelIdeal.Joined

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main, from any memory with zero counters, terminates without fault,
    and each buffer that is not a region's own ends at the last boundary's contents `W3`: the two regions' arrays at
    what their write-backs leave, then the host concatenation. -/
theorem run_boundary : θ_run defs (onTc (τ := τ) (main (F := F))) ⟨m, fun _ => 0, ρ⟩ (fun r =>
      ∀ c : Dev nD, ∀ b ∈ Pipeline.ucRefs τ sig, r.2.mem ((c : Thread nD τ).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The result array at the last boundary: the two regions' arrays joined along the rows. -/
theorem W3_result (c : Dev nD) : W3 m ρ c (Proc.devRef .tc main_v2)
    = concatenate S4x8192x1024 1 [⟨S4x4096x1024, (dat0 (V0 m ρ) c).arrAt 2 cfg0.N⟩, ⟨S4x4096x1024, (dat1 (V1 m ρ) c).arrAt 2 cfg1.N⟩]
        concatenates_S4x4096x1024_S4x4096x1024_S4x8192x1024_d1 := by
  have h0 : W2 m ρ c (Proc.devRef .tc main_v0) = (dat0 (V0 m ρ) c).arrAt 2 cfg0.N :=
    (W2_of m ρ c main_v0 (by decide +kernel)).trans (W1_arr m ρ c 2)
  have h1 : W2 m ρ c (Proc.devRef .tc main_v1) = (dat1 (V1 m ρ) c).arrAt 2 cfg1.N := W2_arr m ρ c 2
  rw [← h0, ← h1]
  show StableHlo.after hostOps2 (W2 m ρ c) (Proc.devRef .tc main_v2) = _
  generalize W2 m ρ c = W
  after_results

/-- The run with the claim's arrays named: the result the two halves joined, the arguments as launched. -/
theorem run : θ_run defs (onTc (τ := τ) (main (F := F))) ⟨m, fun _ => 0, ρ⟩ (fun r => ∀ c : Dev nD,
      r.2.mem ((c.tc : Thread nD τ).loc main_v2)
        = concatenate S4x8192x1024 1 [⟨S4x4096x1024, (dat0 (V0 m ρ) c).arrAt 2 cfg0.N⟩, ⟨S4x4096x1024, (dat1 (V1 m ρ) c).arrAt 2 cfg1.N⟩]
            concatenates_S4x4096x1024_S4x4096x1024_S4x8192x1024_d1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_v2 (by decide))).trans (W3_result m ρ c),
       (h c _ (mem_uc main_arg0 (by decide))).trans (W3_main_arg0 m ρ c),
       (h c _ (mem_uc main_arg1 (by decide))).trans (W3_main_arg1 m ρ c)⟩)
    (run_boundary m ρ)

end Cert.KernelIdeal.Joined

end
-- ==== Proof.Halves.lean ====
/- What each of the kernel's two pipelined calls computes: its result array is the sum of the inputs and the
   position table on one half of the rows, the first 4096 for the first call and the last 4096 for the second. -/
module

public import proofs.«01_k».proof.Proof.Gen.KernelIdeal.Frame
public import Idealize.ShloMosaic.Lib.Pipeline.ValueKit
public import Idealize.ShloMosaic.Lib.ValueLayout

@[expose] public section

set_option maxRecDepth 16384

noncomputable section

namespace Cert.KernelIdeal.Joined

open Cert.KernelIdeal Cert.KernelIdeal.Gen
open Idealize.ShloMosaic Idealize.ShloMosaic.TcCoe Idealize.SL.Sem
open Idealize.ShloMosaic.Pipeline (Dat)

variable {F : FTy → Type} [FloatOps F]

/-- Row `j` of the half that starts at row `r`, counted in the whole sequence of 8192 rows. -/
abbrev rowOf (r : Nat) (hr : r ≤ 4096) (j : Fin 4096) : Fin 8192 := ⟨r + j.val, by omega⟩

/-- The sum of the inputs `x` and the position table `e` on the 4096 rows from row `r` on: at batch `b`, row `j` and
    column `d`, `x[b, r + j, d] + e[r + j, d]`. -/
def halfSum (r : Nat) (hr : r ≤ 4096) (x : Vec F S4x8192x1024 .f32) (e : Vec F S8192x1024 .f32) : Vec F S4x4096x1024 .f32 :=
  fun i => FloatOps.addf (x (ix3 (i 0) (rowOf r hr (i 1)) (i 2))) (e (ix2 (rowOf r hr (i 1)) (i 2)))

/-- What the body stores, at one index of its block: the input block's element plus the table block's element of the
    same row and column, whatever the batch. -/
theorem body_apply (x : Vec F S4x512x1024 .f32) (e : Vec F S512x1024 .f32) (y : S4x512x1024.Idx) :
    k0_pay1 x e y = FloatOps.addf (x y) (e (ix2 (y 1) (y 2))) := by
  show FloatOps.addf (x y) (broadcastTo S4x512x1024 (shapeCast S1x512x1024 e shapeCasts_S512x1024_S1x512x1024)
    broadcasts_S1x512x1024_S4x512x1024 y) = _
  congr 1
  refine (broadcastTo_apply _ _ y (ix3 (0 : Fin 1) (y 1) (y 2)) (fun a => by fin_cases a <;> rfl)).trans ?_
  exact ValueIdx.shapeCast_ab_1ab_apply e _ 0 (y 1) (y 2)

/-- The second call's body stores the same function of its blocks as the first's. -/
theorem body1_eq (x : Vec F S4x512x1024 .f32) (e : Vec F S512x1024 .f32) : k1_pay1 x e = k0_pay1 x e := rfl

/-- The first call's block indices at point `t`: block `t` of the rows for all three windows. -/
theorem blocks0 : ∀ t : Fin cfg0.N, win0_0.index t = ![0, t.val, 0] ∧ win0_1.index t = ![t.val, 0] ∧ win0_2.index t = ![0, t.val, 0] :=
  (by decide +kernel : ∀ t : Fin grid0.N, _)

/-- The second call's: it reads block `8 + t` of the rows and writes block `t`. -/
theorem blocks1 : ∀ t : Fin cfg1.N, win1_0.index t = ![0, 8 + t.val, 0] ∧ win1_1.index t = ![8 + t.val, 0] ∧ win1_2.index t = ![0, t.val, 0] :=
  (by decide +kernel : ∀ t : Fin grid1.N, _)

variable (V : (c : Dev nD) → (b : Ref sig .tc) → Buf (Elt F) ((c : Thread nD τ).loc b))

/-- The first call's result array, from any contents at its entry: the sum on the first 4096 rows. -/
theorem first_half (c : Dev nD) :
    (dat0 V c).arrAt 2 cfg0.N = halfSum 0 (by omega) (V c main_arg0) (V c main_arg1) := by
  refine (dat0 V c).arrAt_eq_of_covers 2 _ (by decide +kernel) fun t _ y => ?_
  blk_simp
  rw [after0_2]; frame_out
  rw [body_apply]
  unfold halfSum
  blk_point [iblk0, blocks0 t] <;> blk_simp [blocks0 t] <;> omega

/-- The second call's result array, from any contents at its entry: the sum on the last 4096 rows. -/
theorem second_half (c : Dev nD) :
    (dat1 V c).arrAt 2 cfg1.N = halfSum 4096 (by omega) (V c main_arg0) (V c main_arg1) := by
  refine (dat1 V c).arrAt_eq_of_covers 2 _ (by decide +kernel) fun t _ y => ?_
  blk_simp
  rw [after1_2]; frame_out
  rw [body1_eq, body_apply]
  unfold halfSum
  blk_point [iblk1, blocks1 t] <;> blk_simp [blocks1 t] <;> omega

end Cert.KernelIdeal.Joined

end
-- ==== Proof.Sum.lean ====
/- The equation between the kernel's two halves and the reference: joined along the rows they are the reference's
   sum of the inputs and the position table repeated over the batch. -/
module

public import proofs.«01_k».proof.Proof.Run
public import proofs.«01_k».proof.Proof.Halves
public import proofs.«01_k».proof.Proof.Gen.ReferenceIdeal.Run

@[expose] public section

set_option maxRecDepth 16384

noncomputable section

namespace Cert.KernelIdeal.Joined

open Cert.KernelIdeal Cert.KernelIdeal.Gen
open Idealize.ShloMosaic Idealize.ShloMosaic.TcCoe Idealize.SL.Sem

variable {F : FTy → Type} [FloatOps F]

/-- The reference's result as its operations compose it: the table given a batch axis, repeated over the batch, added
    to the inputs. -/
abbrev embedded (x : Vec F S4x8192x1024 .f32) (e : Vec F S8192x1024 .f32) : Vec F S4x8192x1024 .f32 :=
  addf x (broadcastInDim Cert.ReferenceIdeal.S4x8192x1024 ![0, 1, 2] Cert.ReferenceIdeal.Gen.bcast_S1x8192x1024_S4x8192x1024_0_1_2
    (broadcastInDim Cert.ReferenceIdeal.S1x8192x1024 ![1, 2] Cert.ReferenceIdeal.Gen.bcast_S8192x1024_S1x8192x1024_1_2 e))

/-- The reference at one index: `x[b, s, d] + e[s, d]`. -/
theorem embedded_apply (x : Vec F S4x8192x1024 .f32) (e : Vec F S8192x1024 .f32) (i : S4x8192x1024.Idx) :
    embedded x e i = FloatOps.addf (x i) (e (ix2 (i 1) (i 2))) := by
  unfold embedded addf
  congr 1
  refine (broadcastInDim_apply _ _ _ i (ix3 (0 : Fin 1) (i 1) (i 2)) (fun a => by fin_cases a <;> rfl)).trans ?_
  exact broadcastInDim_apply _ _ _ _ _ (fun a => by fin_cases a <;> rfl)

/-- A half's sum at batch `i 0`, its row `k` and column `i 2`, where `k` is row `i 1` of the sequence: the reference's
    element at `i`. -/
theorem halfSum_apply (r : Nat) (hr : r ≤ 4096) (x : Vec F S4x8192x1024 .f32) (e : Vec F S8192x1024 .f32)
    (i : S4x8192x1024.Idx) (k : Fin 4096) (hk : r + k.val = (i 1).val) :
    halfSum r hr x e (ix3 (i 0) k (i 2)) = embedded x e i := by
  have hrow : rowOf r hr k = i 1 := Fin.ext hk
  rw [embedded_apply]
  refine congrArg₂ FloatOps.addf (congrArg x (funext fun a => ?_)) (congrArg e (funext fun a => ?_))
  · fin_cases a
    · rfl
    · exact hrow
    · rfl
  · fin_cases a
    · exact hrow
    · rfl

/-- The sums on the two halves of the rows, joined along the rows, are the reference's array. -/
theorem joined_eq (x : Vec F S4x8192x1024 .f32) (e : Vec F S8192x1024 .f32) :
    concatenate S4x8192x1024 1 [⟨S4x4096x1024, halfSum 0 (by omega) x e⟩, ⟨S4x4096x1024, halfSum 4096 (by omega) x e⟩]
      concatenates_S4x4096x1024_S4x4096x1024_S4x8192x1024_d1 = embedded x e := by
  funext i
  have h1 : (i 1).val < 8192 := (i 1).isLt
  by_cases h : (i 1).val < 4096
  · exact (concatenate_pair_apply_left (t := S4x8192x1024) (s₁ := S4x4096x1024) (s₂ := S4x4096x1024) 1 _ _ _ i rfl
      (ix3 (i 0) ⟨(i 1).val, h⟩ (i 2)) (fun a => by fin_cases a <;> rfl)).trans
      (halfSum_apply 0 _ x e i _ (Nat.zero_add _))
  · have hlt : (i 1).val - 4096 < 4096 := by omega
    exact (concatenate_pair_apply_right (t := S4x8192x1024) (s₁ := S4x4096x1024) (s₂ := S4x4096x1024) 1 _ _ _ i rfl rfl
      (ix3 (i 0) ⟨(i 1).val - 4096, hlt⟩ (i 2)) (fun a ha => by
        fin_cases a
        · rfl
        · exact absurd rfl ha
        · rfl)
      (show (i 1).val - 4096 + 4096 = (i 1).val by omega)).trans
      (halfSum_apply 4096 _ x e i _ (show 4096 + ((i 1).val - 4096) = (i 1).val by omega))

variable (m : (ℓ : Loc nD τ sig) → Buf (Elt F) ℓ) (ρ : Dev nD → PrngReg)

/-- The kernel's run in the reference's terms: its result is the reference's array of its own arguments, which end as
    launched. The second call finds the arguments as the first left them, which is as launched. -/
theorem run_embedded : θ_run defs (onTc (τ := τ) (main (F := F))) ⟨m, fun _ => 0, ρ⟩ (fun r => ∀ c : Dev nD,
      r.2.mem ((c.tc : Thread nD τ).loc main_v2)
        = embedded (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (run m ρ)
  have e0 : V1 m ρ c main_arg0 = m ((c.tc : Thread nD τ).loc main_arg0) := W1_args m ρ c main_arg0 (by decide)
  have e1 : V1 m ρ c main_arg1 = m ((c.tc : Thread nD τ).loc main_arg1) := W1_args m ρ c main_arg1 (by decide)
  rw [first_half, second_half, e0, e1]
  exact joined_eq _ _

end Cert.KernelIdeal.Joined

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Sum
public import Idealize.ShloMosaic.Adequacy
public import Idealize.ShloMosaic.Init
public import Idealize.ShloMosaic.Lib.Quiescent

@[expose] public section

noncomputable section

namespace Cert.Proof

open Idealize.ShloMosaic Idealize.SL.Sem

/-- The reference's frame: its run leaves the arguments as launched, and it has no semaphore. -/
theorem frame_reference : Cert.quiescent_ReferenceIdeal := fun m g _ =>
  (θ_run Cert.ReferenceIdeal.defs _ _).mono (fun r h => ⟨fun c => ⟨(h c).2.1, (h c).2.2⟩,
      sem_eq_zero_of_no_sems (by decide) r.2⟩)
    (Cert.ReferenceIdeal.Value.run (F := Ideal) m g)

/-- Over the extended reals, from memories that agree on the arguments, the kernel's two joined halves and the
    reference's sum are one array. -/
theorem algebraic : Cert.algebraic_KernelIdeal_ReferenceIdeal := by
  intro m g m' g' _ hagree
  refine ⟨fun c => _, Cert.KernelIdeal.Joined.run_embedded (F := Ideal) m g, ?_⟩
  refine (θ_run Cert.ReferenceIdeal.defs _ _).mono (fun r h c => ⟨(h c).1.trans ?_, (h c).2⟩)
    (Cert.ReferenceIdeal.Value.run (F := Ideal) m' g')
  rw [(hagree c).1, (hagree c).2]

/-- Everything the certificate claims. -/
theorem claim : Cert.Claim :=
  ⟨Cert.Kernel.Gen.facts, Cert.KernelIdeal.Gen.facts, Cert.ReferenceIdeal.Gen.facts,
    fun m g _ => Cert.Kernel.Gen.frame m g,
    fun m g _ => Cert.KernelIdeal.Gen.frame m g,
    frame_reference,
    trivial,
    algebraic⟩

end Cert.Proof

end
